-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x5120 : Shape := ⟨3, ![4, 1024, 5120]⟩
abbrev S4x1024x1 : Shape := ⟨3, ![4, 1024, 1]⟩
abbrev S4480x5120 : Shape := ⟨2, ![4480, 5120]⟩
abbrev S4480 : Shape := ⟨1, ![4480]⟩
abbrev S4096x5120 : Shape := ⟨2, ![4096, 5120]⟩
abbrev S4096x1 : Shape := ⟨2, ![4096, 1]⟩
abbrev S1x4480 : Shape := ⟨2, ![1, 4480]⟩
abbrev S4096x4480 : Shape := ⟨2, ![4096, 4480]⟩
abbrev S512x5120 : Shape := ⟨2, ![512, 5120]⟩
abbrev S512x1 : Shape := ⟨2, ![512, 1]⟩
abbrev S2304x5120 : Shape := ⟨2, ![2304, 5120]⟩
abbrev S1x2304 : Shape := ⟨2, ![1, 2304]⟩
abbrev S512x2304 : Shape := ⟨2, ![512, 2304]⟩
abbrev S4x1024x4480 : Shape := ⟨3, ![4, 1024, 4480]⟩

abbrev nBuf : Space → Nat
  | .hbm => 12
  | .vmem => 12
  | .smem => 0
  | _ => 0

abbrev bufTy : (tb : Table) → Fin (tcTables nBuf tb) → BufTy
  | .hbm, ⟨0, _⟩ => ⟨S4x1024x5120, .fp8e4m3⟩
  | .hbm, ⟨1, _⟩ => ⟨S4x1024x1, .f32⟩
  | .hbm, ⟨2, _⟩ => ⟨S4480x5120, .fp8e4m3⟩
  | .hbm, ⟨3, _⟩ => ⟨S4480, .f32⟩
  | .hbm, ⟨4, _⟩ => ⟨S4480, .bf16⟩
  | .hbm, ⟨5, _⟩ => ⟨S4096x5120, .fp8e4m3⟩
  | .hbm, ⟨6, _⟩ => ⟨S4096x1, .f32⟩
  | .hbm, ⟨7, _⟩ => ⟨S1x4480, .f32⟩
  | .hbm, ⟨8, _⟩ => ⟨S4480, .f32⟩
  | .hbm, ⟨9, _⟩ => ⟨S1x4480, .f32⟩
  | .hbm, ⟨10, _⟩ => ⟨S4096x4480, .bf16⟩
  | .hbm, ⟨11, _⟩ => ⟨S4x1024x4480, .bf16⟩
  | .local _ .vmem, ⟨0, _⟩ => ⟨S512x5120, .fp8e4m3⟩
  | .local _ .vmem, ⟨1, _⟩ => ⟨S512x5120, .fp8e4m3⟩
  | .local _ .vmem, ⟨2, _⟩ => ⟨S512x1, .f32⟩
  | .local _ .vmem, ⟨3, _⟩ => ⟨S512x1, .f32⟩
  | .local _ .vmem, ⟨4, _⟩ => ⟨S2304x5120, .fp8e4m3⟩
  | .local _ .vmem, ⟨5, _⟩ => ⟨S2304x5120, .fp8e4m3⟩
  | .local _ .vmem, ⟨6, _⟩ => ⟨S1x2304, .f32⟩
  | .local _ .vmem, ⟨7, _⟩ => ⟨S1x2304, .f32⟩
  | .local _ .vmem, ⟨8, _⟩ => ⟨S1x2304, .f32⟩
  | .local _ .vmem, ⟨9, _⟩ => ⟨S1x2304, .f32⟩
  | .local _ .vmem, ⟨10, _⟩ => ⟨S512x2304, .bf16⟩
  | .local _ .vmem, ⟨11, _⟩ => ⟨S512x2304, .bf16⟩
  | _, _ => ⟨S4x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x1024x5120 : Shape := ⟨3, ![4, 1024, 5120]⟩
abbrev S4x1024x1 : Shape := ⟨3, ![4, 1024, 1]⟩
abbrev S4480x5120 : Shape := ⟨2, ![4480, 5120]⟩
abbrev S4480 : Shape := ⟨1, ![4480]⟩
abbrev S4x1024x4480 : Shape := ⟨3, ![4, 1024, 4480]⟩
abbrev S1x1x4480 : Shape := ⟨3, ![1, 1, 4480]⟩

abbrev nBuf : Space → Nat
  | .hbm => 6
  | .vmem => 6
  | .smem => 0
  | _ => 0

abbrev bufTy : (tb : Table) → Fin (tcTables nBuf tb) → BufTy
  | .hbm, ⟨0, _⟩ => ⟨S4x1024x5120, .fp8e4m3⟩
  | .hbm, ⟨1, _⟩ => ⟨S4x1024x1, .f32⟩
  | .hbm, ⟨2, _⟩ => ⟨S4480x5120, .fp8e4m3⟩
  | .hbm, ⟨3, _⟩ => ⟨S4480, .f32⟩
  | .hbm, ⟨4, _⟩ => ⟨S4480, .bf16⟩
  | .hbm, ⟨5, _⟩ => ⟨S4x1024x4480, .bf16⟩
  | .local _ .vmem, ⟨0, _⟩ => ⟨S4x1024x5120, .fp8e4m3⟩
  | .local _ .vmem, ⟨1, _⟩ => ⟨S4x1024x1, .f32⟩
  | .local _ .vmem, ⟨2, _⟩ => ⟨S4480x5120, .fp8e4m3⟩
  | .local _ .vmem, ⟨3, _⟩ => ⟨S4480, .f32⟩
  | .local _ .vmem, ⟨4, _⟩ => ⟨S4480, .bf16⟩
  | .local _ .vmem, ⟨5, _⟩ => ⟨S4x1024x4480, .bf16⟩
  | _, _ => ⟨S4x1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4480x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4480 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x4480 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/-
  The frame of the kernel on machine words: every run of `Cert.Kernel.main` ends, the five arguments end as launched
  and every semaphore counter ends at zero.

  The weight, scale, bias and output blocks of the second grid column overhang their arrays, so what the body finds and
  leaves past the arrays' ends has no name. The frame needs none of it: the proof forgets what every staging buffer
  holds (`forgets`) and keeps only that each buffer is there to be used. The argument arrays are read, never written,
  so they end as launched whatever the buffers held.
-/
module

public import proofs.«01_k».proof.Proof.Gen.Kernel.Skeleton
public import proofs.«01_k».proof.Proof.Gen.Kernel.Frame
public import Idealize.ShloMosaic.Lib.Tactic
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging buffer held whole, at contents nobody names. -/
abbrev held (c : Dev nD) {s : Shape} {e : EltTy} (a : Memref sig .tc .vmem s e) : sProp 𝕄 :=
  iprop(∃ X, owns (c : Thread nD τ) a fullShare X)

set_option maxHeartbeats 1000000 in
/-- The kernel body on six whole staging buffers at any contents runs to its end and leaves the six buffers there. -/
theorem sound_kernel (c : Dev nD) (E : Set ℕ) (i : grid0.Coords)
    (x : Memref sig .tc .vmem S512x5120 .fp8e4m3) (hx : x.IsWhole) (xs : Memref sig .tc .vmem S512x1 .f32) (hxs : xs.IsWhole)
    (w : Memref sig .tc .vmem S2304x5120 .fp8e4m3) (hw : w.IsWhole) (ws : Memref sig .tc .vmem S1x2304 .f32) (hws : ws.IsWhole)
    (b : Memref sig .tc .vmem S1x2304 .f32) (hb : b.IsWhole) (o : Memref sig .tc .vmem S512x2304 .bf16) (ho : o.IsWhole)
    (K : PUnit → sProp 𝕄) :
    iprop(held c x ∗ held c xs ∗ held c w ∗ held c ws ∗ held c b ∗ held c o
        ∗ (iprop(held c x ∗ held c xs ∗ held c w ∗ held c ws ∗ held c b ∗ held c o) -∗ K ⟨⟩))
      ⊢ wp frame (wpE (defs₀ (F := F)) Variants.none c none) E (cc0_fp8_linear i x hx xs hxs w hw ws hws b hb o ho) K := by
  simp only [cc0_fp8_linear_eq_skeleton]; unfold cc0_fp8_linear_skel
  unfold held owns
  iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, Hk⟩
  sl_exec
  sl_step
  iapply Hk
  isplitl [H0]
  · iexists _, f0; isplitr; · ipureintro; rfl
    iexact H0
  isplitl [H1]
  · iexists _, f1; isplitr; · ipureintro; rfl
    iexact H1
  isplitl [H2]
  · iexists _, f2; isplitr; · ipureintro; rfl
    iexact H2
  isplitl [H3]
  · iexists _, f3; isplitr; · ipureintro; rfl
    iexact H3
  isplitl [H4]
  · iexists _, f4; isplitr; · ipureintro; rfl
    iexact H4
  iexists _, _; isplitr
  swap; · iexact H5
  ipureintro; rfl

/-- The proof data: the arrays as the region finds them; what the body leaves in the buffers unnamed; the scoped rest and
    the generator register untouched; nothing owed; full shares. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What every window's staging buffer holds is forgotten. -/
def forgets : Fin cfg0.W → Bool := fun _ => true

/-- What the body is called with at point `t`, and what it returns. -/
def bodyRes (c : Dev nD) (t t' : Fin (cfg0.N + 1)) (s : Fin cfg0.N) : sProp 𝕄 :=
  iprop((dats m 0 c).Φ t ∗ (dats m 0 c).owesAt () t'
    ∗ held c (st0_0 s) ∗ held c (st0_1 s) ∗ held c (st0_2 s) ∗ held c (st0_3 s) ∗ held c (st0_4 s) ∗ held c (st0_5 s))

/-- The body at any point: `sound_kernel`, the invariant and the core's debts passing through unread. -/
theorem sound_body (c : Dev nD) (t : Fin cfg0.N) :
    bodyRes m c t.castSucc t.castSucc t
      ⊢ wp frame (wpE (defs₀ (F := F)) Variants.none c none) Set.univ (bodyAt0 t) (fun _ => bodyRes m c t.succ t.succ t) := by
  unfold bodyRes bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5⟩
  iapply (sound_kernel c Set.univ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

/-- The one reference that the host lines after the region write. -/
def T : Finset (Ref sig .tc) := {main_v6}

/-- Every reference that a host line after the region writes is in `T`. -/
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl
  intro b hb
  simp only [StableHlo.reshape_writes, Finset.mem_singleton] at hb
  rw [Proc.devRef_injective _ hb]; exact Finset.mem_singleton_self _

-- the run theorem's implicit arguments are found by unifying its conclusion with this one, which takes unfolding plain
-- definitions in a metavariable's type
set_option backward.isDefEq.respectTransparency.types false in
set_option maxHeartbeats 800000 in
/-- THE RUN: every weakly fair execution ends, with the input arrays and every bypassing buffer but `main_v6` as the region
    found them, and every semaphore counter at zero. -/
theorem run_main : θ_run defs (onTc (τ := τ) (main (F := F))) (s₀ m ρ) (fun r =>
      RDat.FramePostR cfg0 (fun c => (dats m 0 c).toRForget forgets) T (V m) r ∧ r.2.sem = fun _ => 0) :=
  Pipeline.θ_run_frame_around_T_forget (Q' := _) cfgs (dats m) (0 : Fin 1) launch0 defs₀ Variants.none forgets T m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- THE FRAME of the kernel: the arguments end as launched and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have rest (b : Ref sig .tc) (h1 : b ∈ Pipeline.restRefs sig spec0) (h2 : b ∉ T) : b ∈ Pipeline.restRefs sig spec0 \ T :=
    Finset.mem_sdiff.mpr ⟨h1, h2⟩
  (θ_run defs _ _).mono (fun r h => ⟨fun c =>
      ⟨((h.1 c).2 main_arg0 (rest _ (Pipeline.mem_restRefs_of main_arg0 (by decide) (by decide)) (by decide))).trans (V_main_arg0 m c),
       ((h.1 c).2 main_arg1 (rest _ (Pipeline.mem_restRefs_of main_arg1 (by decide) (by decide)) (by decide))).trans (V_main_arg1 m c),
       (RDat.FramePostR.arr_in h.1 c 2 rfl).trans ((A_eq m c 2).trans (V_main_arg2 m c)),
       ((h.1 c).2 main_arg3 (rest _ (Pipeline.mem_restRefs_of main_arg3 (by decide) (by decide)) (by decide))).trans (V_main_arg3 m c),
       ((h.1 c).2 main_arg4 (rest _ (Pipeline.mem_restRefs_of main_arg4 (by decide) (by decide)) (by decide))).trans (V_main_arg4 m c)⟩,
      h.2⟩) (run_main m ρ)

end Cert.Kernel.Hand

end
-- ==== Proof.Values.lean ====
/-
  What the two programs compute, element by element, over the extended reals.

  The kernel's payload (one 512 × 2304 tile of the flattened result) and the reference's payload (the whole result) are
  each read at an index: a sum of products over the 5120 input features, times the row's activation scale, times the
  column's weight scale, plus the column's bias. The sum stands as it is on both sides: no term is moved or regrouped.
-/
module

public import proofs.«01_k».proof.Proof.Gen.KernelIdeal.Skeleton
public import proofs.«01_k».proof.Proof.Gen.ReferenceIdeal.Skeleton
public import Idealize.ShloMosaic.Lib.Pointwise

@[expose] public section

noncomputable section

namespace Cert.Values

open Idealize.ShloMosaic

/-- One element of the kernel's tile, from the staged blocks `x` (activations), `w` (weights), `xs` (activation scales),
    `ws` (weight scales) and `b` (biases): only row `j 0` of `x` and `xs`, row `j 1` of `w` and column `j 1` of `ws` and
    `b` matter. -/
theorem tile_at (x : Vec Ideal KernelIdeal.S512x5120 .fp8e4m3) (w : Vec Ideal KernelIdeal.S2304x5120 .fp8e4m3)
    (xs : Vec Ideal KernelIdeal.S512x1 .f32) (ws b : Vec Ideal KernelIdeal.S1x2304 .f32) (j : KernelIdeal.S512x2304.Idx) :
    KernelIdeal.Gen.k0_pay1 (F := Ideal) x w xs ws b j
      = (∑ k : Fin 5120, x (ix2 (j 0) k) * w (ix2 (j 1) k)) * xs (ix2 (j 0) 0) * ws (ix2 0 (j 1)) + b (ix2 0 (j 1)) := by
  pointwise [KernelIdeal.Gen.k0_pay1]

/-- One element of the reference's result, from the five arguments whole. -/
theorem reference_at (x : Vec Ideal ReferenceIdeal.S4x1024x5120 .fp8e4m3) (w : Vec Ideal ReferenceIdeal.S4480x5120 .fp8e4m3)
    (xs : Vec Ideal ReferenceIdeal.S4x1024x1 .f32) (ws : Vec Ideal ReferenceIdeal.S4480 .f32)
    (b : Vec Ideal ReferenceIdeal.S4480 .bf16) (j : ReferenceIdeal.S4x1024x4480.Idx) :
    ReferenceIdeal.Gen.k0_pay1 (F := Ideal) x w xs ws b j
      = (∑ k : Fin 5120, x (ix3 (j 0) (j 1) k) * w (ix2 (j 2) k)) * xs (ix3 (j 0) (j 1) 0) * ws (ix1 (j 2)) + b (ix1 (j 2)) := by
  pointwise [ReferenceIdeal.Gen.k0_pay1]

/-- The kernel's flattened result as one function of the arrays that its grid reads: element `(r, n)` is the sum over
    `k` of `x[r, k] * w[n, k]`, times `xs[r]`, times `ws[n]`, plus `b[n]`. -/
def flat (x : Vec Ideal KernelIdeal.S4096x5120 .fp8e4m3) (w : Vec Ideal KernelIdeal.S4480x5120 .fp8e4m3)
    (xs : Vec Ideal KernelIdeal.S4096x1 .f32) (ws b : Vec Ideal KernelIdeal.S1x4480 .f32) :
    Vec Ideal KernelIdeal.S4096x4480 .bf16 := fun i =>
  (∑ k : Fin 5120, x (ix2 (i 0) k) * w (ix2 (i 1) k)) * xs (ix2 (i 0) 0) * ws (ix2 0 (i 1)) + b (ix2 0 (i 1))

end Cert.Values

end
-- ==== Proof.KernelIdealRun.lean ====
/-
  The kernel over the extended reals: its run, and what the flattened result array holds after it.

  The grid is 2 column blocks by 8 row blocks. The second column block of the weights, the weight scales, the biases and
  the result overhangs its array (4480 = 2304 + 2176), so a fetch fills only the leading part of a staging buffer and
  leaves the rest at contents nobody names. An element of the tile reads only its own weight row, scale and bias, so the
  part of the tile that the write-back moves does not depend on the unnamed rest (`tile_cut`); that is what makes the
  result array a function of the arguments.
-/
module

public import proofs.«01_k».proof.Proof.Gen.KernelIdeal.Skeleton
public import proofs.«01_k».proof.Proof.Gen.KernelIdeal.Points
public import proofs.«01_k».proof.Proof.Gen.KernelIdeal.Frame
public import proofs.«01_k».proof.Proof.Values
public import Idealize.ShloMosaic.Lib.Tactic
public import Idealize.ShloMosaic.Lib.Claim
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-! ## Where the blocks lie -/

/-- Row blocks move with the result's row block, column blocks with its column block. -/
theorem idx : ∀ t : Fin cfg0.N,
    (win0_0.index t 0 = win0_5.index t 0 ∧ win0_0.index t 1 = 0)
    ∧ (win0_1.index t 0 = win0_5.index t 0 ∧ win0_1.index t 1 = 0)
    ∧ (win0_2.index t 0 = win0_5.index t 1 ∧ win0_2.index t 1 = 0)
    ∧ (win0_3.index t 0 = 0 ∧ win0_3.index t 1 = win0_5.index t 1)
    ∧ (win0_4.index t 0 = 0 ∧ win0_4.index t 1 = win0_5.index t 1) :=
  (by decide +kernel : ∀ t : Fin grid0.N, _)

/-- The flattened result that the run leaves, from the arrays as the region finds them. -/
def result (c : Dev nD) : Vec Ideal S4096x4480 .bf16 :=
  Values.flat (V m c main_v0) (V m c main_arg2) (V m c main_v1) (V m c main_v2) (V m c main_v4)

/-- An index of the part of the result's block that the write-back at point `t` moves: its place in the tile, -/
abbrev tileIdx (t : Fin cfg0.N) (y : ((cfg0.win 5).xblock (cfg0.grid.coords t)).Idx) : S512x2304.Idx :=
  (cfg0.win 5).xinj (cfg0.grid.coords t) y
/-- and its place in the array. -/
abbrev arrIdx (t : Fin cfg0.N) (y : ((cfg0.win 5).xblock (cfg0.grid.coords t)).Idx) : S4096x4480.Idx :=
  ((cfg0.win 5).blk t).view.emb y

theorem arr_row (t : Fin cfg0.N) (y : ((cfg0.win 5).xblock (cfg0.grid.coords t)).Idx) :
    (arrIdx t y 0).val = win0_5.index t 0 * 512 + (y 0).val := by
  unfold arrIdx; blk_simp
theorem arr_col (t : Fin cfg0.N) (y : ((cfg0.win 5).xblock (cfg0.grid.coords t)).Idx) :
    (arrIdx t y 1).val = win0_5.index t 1 * 2304 + (y 1).val := by
  unfold arrIdx; blk_simp

section Reads
variable (c : Dev nD) (t : Fin cfg0.N) (y : ((cfg0.win 5).xblock (cfg0.grid.coords t)).Idx)

/-- A tile row of the activation block is that row of the activations. -/
theorem x_at (k : Fin 5120) : iblk m c 0 t (ix2 (tileIdx t y 0) k) = V m c main_v0 (ix2 (arrIdx t y 0) k) := by
  obtain ⟨⟨e0, e1⟩, -⟩ := idx t
  blk_ext [iblk, e0, e1]
  exact (arr_row t y).symm

/-- The same of the activation scales. -/
theorem xs_at : iblk m c 1 t (ix2 (tileIdx t y 0) 0) = V m c main_v1 (ix2 (arrIdx t y 0) 0) := by
  obtain ⟨-, ⟨e0, e1⟩, -⟩ := idx t
  blk_ext [iblk, e0, e1]
  exact (arr_row t y).symm

/-- A weight row inside the array is staged from it, whatever fills the rows past the array's end. -/
theorem w_at (d : Vec Ideal S2304x5120 .fp8e4m3) (k : Fin 5120) :
    (cfg0.win 2).fill (cfg0.grid.coords t) d (iblk m c 2 t) (ix2 (tileIdx t y 1) k) = V m c main_arg2 (ix2 (arrIdx t y 1) k) := by
  obtain ⟨-, -, ⟨e0, e1⟩, -⟩ := idx t
  have hm : (cfg0.win 2).moved (cfg0.grid.coords t) (ix2 (tileIdx t y 1) k) = true := by
    rw [Window.moved_iff]
    intro a
    match a with
    | ⟨0, _⟩ => exact (y 1).isLt
    | ⟨1, _⟩ => exact k.isLt
  unfold Window.fill; rw [dif_pos hm]
  blk_ext [iblk, e0, e1]
  exact (arr_col t y).symm

/-- The same of a weight scale. -/
theorem ws_at (d : Vec Ideal S1x2304 .f32) :
    (cfg0.win 3).fill (cfg0.grid.coords t) d (iblk m c 3 t) (ix2 0 (tileIdx t y 1)) = V m c main_v2 (ix2 0 (arrIdx t y 1)) := by
  obtain ⟨-, -, -, ⟨e0, e1⟩, -⟩ := idx t
  have hm : (cfg0.win 3).moved (cfg0.grid.coords t) (ix2 0 (tileIdx t y 1)) = true := by
    rw [Window.moved_iff]
    intro a
    match a with
    | ⟨0, _⟩ => exact Nat.one_pos
    | ⟨1, _⟩ => exact (y 1).isLt
  unfold Window.fill; rw [dif_pos hm]
  blk_ext [iblk, e0, e1]
  exact (arr_col t y).symm

/-- The same of a bias. -/
theorem b_at (d : Vec Ideal S1x2304 .f32) :
    (cfg0.win 4).fill (cfg0.grid.coords t) d (iblk m c 4 t) (ix2 0 (tileIdx t y 1)) = V m c main_v4 (ix2 0 (arrIdx t y 1)) := by
  obtain ⟨-, -, -, -, ⟨e0, e1⟩⟩ := idx t
  have hm : (cfg0.win 4).moved (cfg0.grid.coords t) (ix2 0 (tileIdx t y 1)) = true := by
    rw [Window.moved_iff]
    intro a
    match a with
    | ⟨0, _⟩ => exact Nat.one_pos
    | ⟨1, _⟩ => exact (y 1).isLt
  unfold Window.fill; rw [dif_pos hm]
  blk_ext [iblk, e0, e1]
  exact (arr_col t y).symm

end Reads

/-- An element of the tile inside the array is that element of `result`, whatever the staging buffers hold past the arrays'
    ends. -/
theorem tile_moved (c : Dev nD) (t : Fin cfg0.N) (d2 : Vec Ideal S2304x5120 .fp8e4m3) (d3 d4 : Vec Ideal S1x2304 .f32)
    (y : ((cfg0.win 5).xblock (cfg0.grid.coords t)).Idx) :
    k0_pay1 (F := Ideal) (iblk m c 0 t) ((cfg0.win 2).fill (cfg0.grid.coords t) d2 (iblk m c 2 t)) (iblk m c 1 t)
        ((cfg0.win 3).fill (cfg0.grid.coords t) d3 (iblk m c 3 t)) ((cfg0.win 4).fill (cfg0.grid.coords t) d4 (iblk m c 4 t))
        (tileIdx t y) = result m c (arrIdx t y) := by
  refine (Values.tile_at _ _ _ _ _ _).trans ?_
  unfold result Values.flat
  exact congrArg₂ (· + ·) (congrArg₂ (· * ·) (congrArg₂ (· * ·)
    (Finset.sum_congr rfl fun k _ => congrArg₂ (· * ·) (x_at m c t y k) (w_at m c t y d2 k)) (xs_at m c t y))
    (ws_at m c t y d3)) (b_at m c t y d4)

/-- So the part of the tile that the write-back at point `t` moves is its block of `result`. -/
theorem tile_cut (c : Dev nD) (t : Fin cfg0.N) (d2 : Vec Ideal S2304x5120 .fp8e4m3) (d3 d4 : Vec Ideal S1x2304 .f32) :
    (cfg0.win 5).cut (cfg0.grid.coords t)
        (k0_pay1 (F := Ideal) (iblk m c 0 t) ((cfg0.win 2).fill (cfg0.grid.coords t) d2 (iblk m c 2 t)) (iblk m c 1 t)
          ((cfg0.win 3).fill (cfg0.grid.coords t) d3 (iblk m c 3 t)) ((cfg0.win 4).fill (cfg0.grid.coords t) d4 (iblk m c 4 t)))
      = ((cfg0.win 5).blk t).view.read (Elt Ideal) (result m c) :=
  funext fun y => tile_moved m c t d2 d3 d4 y

/-! ## The body -/

theorem hz : (![0, 0] : Fin 2 → Nat) = fun _ => 0 := funext fun a => by fin_cases a <;> rfl

set_option maxHeartbeats 1000000 in
/-- The kernel body on six whole staging buffers, the inputs' at named contents and the output's at any, runs to its end
    and leaves the inputs' as they were and the output's at the payload of them. -/
theorem sound_kernel (c : Dev nD) (E : Set ℕ) (i : grid0.Coords)
    (x : Memref sig .tc .vmem S512x5120 .fp8e4m3) (hx : x.IsWhole) (xs : Memref sig .tc .vmem S512x1 .f32) (hxs : xs.IsWhole)
    (w : Memref sig .tc .vmem S2304x5120 .fp8e4m3) (hw : w.IsWhole) (ws : Memref sig .tc .vmem S1x2304 .f32) (hws : ws.IsWhole)
    (b : Memref sig .tc .vmem S1x2304 .f32) (hb : b.IsWhole) (o : Memref sig .tc .vmem S512x2304 .bf16) (ho : o.IsWhole)
    (X : Vec Ideal S512x5120 .fp8e4m3) (Xs : Vec Ideal S512x1 .f32) (W : Vec Ideal S2304x5120 .fp8e4m3)
    (Ws B : Vec Ideal S1x2304 .f32) (K : PUnit → sProp 𝕄) :
    iprop(owns (c : Thread nD τ) x fullShare X ∗ owns (c : Thread nD τ) xs fullShare Xs ∗ owns (c : Thread nD τ) w fullShare W
        ∗ owns (c : Thread nD τ) ws fullShare Ws ∗ owns (c : Thread nD τ) b fullShare B ∗ (∃ d, owns (c : Thread nD τ) o fullShare d)
        ∗ (iprop(owns (c : Thread nD τ) x fullShare X ∗ owns (c : Thread nD τ) xs fullShare Xs ∗ owns (c : Thread nD τ) w fullShare W
            ∗ owns (c : Thread nD τ) ws fullShare Ws ∗ owns (c : Thread nD τ) b fullShare B
            ∗ owns (c : Thread nD τ) o fullShare (k0_pay1 (F := Ideal) X W Xs Ws B)) -∗ K ⟨⟩))
      ⊢ wp frame (wpE (defs₀ (F := Ideal)) Variants.none c none) E (cc0_fp8_linear i x hx xs hxs w hw ws hws b hb o ho) K := by
  simp only [cc0_fp8_linear_eq_skeleton]; unfold cc0_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ fun y => View.cover_of_tiled
    [⟨Rect.unit (s := S512x2304) ![0, 0] S512x2304.size inb_S512x2304_S512x2304_0_0, _⟩] S512x2304.size (by rfl) y).trans ?_
  refine (View.canon_unit_zero hz _ _).trans ?_
  exact congr (congr (congr (congr (congrArg (k0_pay1 (F := Ideal))
    (View.ld_unit_zero (S := S512x5120) hz _ _)) (View.ld_unit_zero (S := S2304x5120) hz _ _))
    (View.ld_unit_zero (S := S512x1) hz _ _)) (View.ld_unit_zero (S := S1x2304) hz _ _)) (View.ld_unit_zero (S := S1x2304) hz _ _)

/-! ## The proof data -/

/-- The proof data: the arrays as the region finds them; the input buffers left at their blocks, the output's at its block
    of `result` (each filled out past the array's end with contents nobody names); the scoped rest and the generator
    register untouched; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (Dat.unnamed (cfg := cfg0) 2 t) (iblk m c 2 t)
    | ⟨3, _⟩ => (cfg0.win 3).fill (cfg0.grid.coords t) (Dat.unnamed (cfg := cfg0) 3 t) (iblk m c 3 t)
    | ⟨4, _⟩ => (cfg0.win 4).fill (cfg0.grid.coords t) (Dat.unnamed (cfg := cfg0) 4 t) (iblk m c 4 t)
    | ⟨5, _⟩ => (cfg0.win 5).fill (cfg0.grid.coords t) (Dat.unnamed (cfg := cfg0) 5 t)
        (((cfg0.win 5).blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by
  dsimp only [dats]

/-- What each window's buffer holds after the body, on the part that its transfers move. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem cut2 (c : Dev nD) (t : Fin cfg0.N) : (cfg0.win 2).cut (cfg0.grid.coords t) ((dats m 0 c).after 2 t) = iblk m c 2 t := by
  dsimp only [dats]; exact Window.cut_fill _ _ _ _
theorem cut3 (c : Dev nD) (t : Fin cfg0.N) : (cfg0.win 3).cut (cfg0.grid.coords t) ((dats m 0 c).after 3 t) = iblk m c 3 t := by
  dsimp only [dats]; exact Window.cut_fill _ _ _ _
theorem cut4 (c : Dev nD) (t : Fin cfg0.N) : (cfg0.win 4).cut (cfg0.grid.coords t) ((dats m 0 c).after 4 t) = iblk m c 4 t := by
  dsimp only [dats]; exact Window.cut_fill _ _ _ _
theorem cut5 (c : Dev nD) (t : Fin cfg0.N) : (cfg0.win 5).cut (cfg0.grid.coords t) ((dats m 0 c).after 5 t)
    = ((cfg0.win 5).blk t).view.read (Elt Ideal) (result m c) := by
  dsimp only [dats]; exact Window.cut_fill _ _ _ _

/-- What the body finds in each input's buffer: its block, fetched at this point or at an earlier one of the same block
    index, and past the array's end anything. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) :
    (dats m 0 c).before 2 t d = (cfg0.win 2).fill (cfg0.grid.coords t) d (iblk m c 2 t) :=
  (dats m 0 c).before_in_eq_fetched 2 rfl (fun _ => rfl)
    (fun t t' h => funext fun a => congrArg (fun n => Pipeline.Clip.of n ((cfg0.win 2).size a) (S4480x5120.size a)) (congrFun h a))
    (cut2 m c) t d
theorem before3 (c : Dev nD) (t : Fin cfg0.N) (d) :
    (dats m 0 c).before 3 t d = (cfg0.win 3).fill (cfg0.grid.coords t) d (iblk m c 3 t) :=
  (dats m 0 c).before_in_eq_fetched 3 rfl (fun _ => rfl)
    (fun t t' h => funext fun a => congrArg (fun n => Pipeline.Clip.of n ((cfg0.win 3).size a) (S1x4480.size a)) (congrFun h a))
    (cut3 m c) t d
theorem before4 (c : Dev nD) (t : Fin cfg0.N) (d) :
    (dats m 0 c).before 4 t d = (cfg0.win 4).fill (cfg0.grid.coords t) d (iblk m c 4 t) :=
  (dats m 0 c).before_in_eq_fetched 4 rfl (fun _ => rfl)
    (fun t t' h => funext fun a => congrArg (fun n => Pipeline.Clip.of n ((cfg0.win 4).size a) (S1x4480.size a)) (congrFun h a))
    (cut4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: a window that overhangs its array is described on the part its transfers move. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare
        ((cfg0.win 2).fill (cfg0.grid.coords t) d ((cfg0.win 2).cut (cfg0.grid.coords t) ((dats m 0 c).after 2 t))))
    ∗ (∃ d, owns (c : Thread nD τ) (st0_3 t) fullShare
        ((cfg0.win 3).fill (cfg0.grid.coords t) d ((cfg0.win 3).cut (cfg0.grid.coords t) ((dats m 0 c).after 3 t))))
    ∗ (∃ d, owns (c : Thread nD τ) (st0_4 t) fullShare
        ((cfg0.win 4).fill (cfg0.grid.coords t) d ((cfg0.win 4).cut (cfg0.grid.coords t) ((dats m 0 c).after 4 t))))
    ∗ (∃ d, owns (c : Thread nD τ) (st0_5 t) fullShare
        ((cfg0.win 5).fill (cfg0.grid.coords t) d ((cfg0.win 5).cut (cfg0.grid.coords t) ((dats m 0 c).after 5 t)))))

/-- The body at any point: the payload it leaves in the output's buffer is its block of `result` on the moved part
    (`tile_cut`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, cut2, cut3, cut4, cut5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t)
    ((cfg0.win 2).fill (cfg0.grid.coords t) d2 (iblk m c 2 t)) ((cfg0.win 3).fill (cfg0.grid.coords t) d3 (iblk m c 3 t))
    ((cfg0.win 4).fill (cfg0.grid.coords t) d4 (iblk m c 4 t)) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexists d2; iexact H2
  isplitl [H3]; · iexists d3; iexact H3
  isplitl [H4]; · iexists d4; iexact H4
  iexists _
  rw [← tile_cut m c t d2 d3 d4, Window.fill_cut]
  iexact H5

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The run -/

-- the run theorem's implicit arguments are found by unifying its conclusion with this one, which takes unfolding plain
-- definitions in a metavariable's type
set_option backward.isDefEq.respectTransparency.types false in
set_option maxHeartbeats 800000 in
/-- THE RUN: every weakly fair execution ends, with every array of the grid at what the proof data says, every other buffer
    at what the host lines leave, and every semaphore counter at zero. -/
theorem run_main : θ_run defs (onTc (τ := τ) (main (F := Ideal))) (s₀ m ρ) (fun r =>
      Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end as launched. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- THE FRAME of the kernel over the extended reals: the arguments end as launched and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main m ρ))

/-! ## The result -/

/-- The flattened result array after the run is `result`: every point's write-back is its block of it, and the blocks cover
    the array. -/
theorem final (c : Dev nD) : (dats m 0 c).arrAt 5 cfg0.N = result m c :=
  (dats m 0 c).arrAt_eq_of_covers 5 (result m c) (by decide +kernel) fun t _ y => congrFun (cut5 m c t) y

/-- What the host line after the grid leaves in the result buffer: the flattened result in the result's shape. -/
theorem tail (c : Dev nD) : Pipeline.afterTail₀ cfgs (dats m) 0 (V0 m) [hostOps1] c main_v6
    = shapeCast S4x1024x4480 (result m c) shapeCasts_S4096x4480_S4x1024x4480 := by
  have h5 : Pipeline.withArrays spec0 c (V0 m c) (fun w => (dats m 0 c).arrAt w cfg0.N) (Proc.devRef .tc main_v5) = result m c :=
    (Pipeline.withArrays_arr spec0 (by decide) c _ _ 5).trans (final m c)
  rw [← h5]
  unfold Pipeline.afterTail₀
  simp only [hostOps1, List.flatten_cons, List.flatten_nil, List.append_nil]
  after_results
  rfl

/-- THE VALUE RUN: the result buffer ends at the flattened result in the result's shape, the arguments as launched. -/
theorem run_value : θ_run defs (onTc (τ := τ) (main (F := Ideal))) ⟨m, fun _ => 0, ρ⟩ (fun r => ∀ c : Dev nD,
      r.2.mem ((c.tc : Thread nD τ).loc main_v6) = shapeCast S4x1024x4480 (result m c) shapeCasts_S4096x4480_S4x1024x4480
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1.1 c).2 main_v6 (Pipeline.mem_restRefs_of main_v6 (by decide) (by decide))).trans (tail m c), h.2 c⟩)
    (θ_run_and (run_main m ρ) (unchanged m ρ))

/-! ## The arrays that the grid reads, from the arguments -/

/-- The activations as the grid reads them: the argument as a matrix of 4096 rows. -/
theorem V_v0 (c : Dev nD) : V m c main_v0
    = shapeCast S4096x5120 (m ((c.tc : Thread nD τ).loc main_arg0)) shapeCasts_S4x1024x5120_S4096x5120 := by
  entry_read; rfl
/-- The activation scales: the argument as a column of 4096. -/
theorem V_v1 (c : Dev nD) : V m c main_v1
    = shapeCast S4096x1 (m ((c.tc : Thread nD τ).loc main_arg1)) shapeCasts_S4x1024x1_S4096x1 := by
  entry_read; rfl
/-- The weight scales: the argument as a row. -/
theorem V_v2 (c : Dev nD) : V m c main_v2
    = shapeCast S1x4480 (m ((c.tc : Thread nD τ).loc main_arg3)) shapeCasts_S4480_S1x4480 := by
  entry_read; rfl
/-- The biases: the argument, widened to f32, as a row. -/
theorem V_v4 (c : Dev nD) : V m c main_v4
    = shapeCast S1x4480 (extf (F := Ideal) .f32 (m ((c.tc : Thread nD τ).loc main_arg4)) bitsLt_bf16_f32 : FVec Ideal S4480 .f32)
        shapeCasts_S4480_S1x4480 := by
  entry_read; rfl

end Cert.KernelIdeal.Hand

end
-- ==== Proof.Equation.lean ====
/-
  The kernel's flattened result, in the result's shape, is the reference's result.

  The kernel's host lines reshape the arguments to matrices before the grid and reshape the result back after it: batch
  `b` and position `s` become row `1024 * b + s`. Read through those reshapes, an element of the kernel's result is the
  same expression of the same arguments as the reference's. No argument is assumed finite.
-/
module

public import proofs.«01_k».proof.Proof.Values
public import Idealize.ShloMosaic.Lib.Pointwise

@[expose] public section

noncomputable section

namespace Cert.Values

open Idealize.ShloMosaic

/-- The kernel's result, through its reshapes, is the reference's payload of the same arguments. -/
theorem flat_eq (x : Vec Ideal ReferenceIdeal.S4x1024x5120 .fp8e4m3) (w : Vec Ideal ReferenceIdeal.S4480x5120 .fp8e4m3)
    (xs : Vec Ideal ReferenceIdeal.S4x1024x1 .f32) (ws : Vec Ideal ReferenceIdeal.S4480 .f32)
    (b : Vec Ideal ReferenceIdeal.S4480 .bf16) :
    shapeCast KernelIdeal.S4x1024x4480
      (flat (shapeCast KernelIdeal.S4096x5120 x KernelIdeal.Gen.shapeCasts_S4x1024x5120_S4096x5120) w
        (shapeCast KernelIdeal.S4096x1 xs KernelIdeal.Gen.shapeCasts_S4x1024x1_S4096x1)
        (shapeCast KernelIdeal.S1x4480 ws KernelIdeal.Gen.shapeCasts_S4480_S1x4480)
        (shapeCast KernelIdeal.S1x4480
          (extf (F := Ideal) .f32 b KernelIdeal.Gen.bitsLt_bf16_f32 : FVec Ideal KernelIdeal.S4480 .f32)
          KernelIdeal.Gen.shapeCasts_S4480_S1x4480))
      KernelIdeal.Gen.shapeCasts_S4096x4480_S4x1024x4480
      = ReferenceIdeal.Gen.k0_pay1 (F := Ideal) x w xs ws b := by
  funext j
  rw [reference_at]
  pointwise [flat]

end Cert.Values

end
-- ==== Proof.lean ====
/-
  The five claims about the quantized linear layer, put together.

  The frames come from `Proof/KernelFrame.lean` (the kernel at its own float words), `Proof/KernelIdealRun.lean` (the
  kernel over the extended reals) and the generated frame of the reference. The value claim joins the kernel's run
  (`KernelIdeal.Hand.run_value`), the reference's generated run, and the equation of the two results
  (`Values.flat_eq`). Nothing is assumed of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.KernelFrame
public import proofs.«01_k».proof.Proof.KernelIdealRun
public import proofs.«01_k».proof.Proof.Equation
public import Idealize.ShloMosaic.Adequacy
public import Idealize.ShloMosaic.Init

@[expose] public section

noncomputable section

namespace Cert.Proof

open Idealize.ShloMosaic Idealize.SL.Sem

/-- The kernel's result, as a function of the launch memory, is the reference's payload of the five arguments. -/
theorem result_eq (m : (ℓ : Loc KernelIdeal.nD KernelIdeal.τ KernelIdeal.sig) → Buf (Elt Ideal) ℓ) (c : Dev KernelIdeal.nD) :
    shapeCast KernelIdeal.S4x1024x4480 (KernelIdeal.Hand.result m c) KernelIdeal.Gen.shapeCasts_S4096x4480_S4x1024x4480
      = ReferenceIdeal.Gen.k0_pay1 (F := Ideal) (m ((c.tc : Thread KernelIdeal.nD KernelIdeal.τ).loc KernelIdeal.main_arg0))
          (m ((c.tc : Thread KernelIdeal.nD KernelIdeal.τ).loc KernelIdeal.main_arg2))
          (m ((c.tc : Thread KernelIdeal.nD KernelIdeal.τ).loc KernelIdeal.main_arg1))
          (m ((c.tc : Thread KernelIdeal.nD KernelIdeal.τ).loc KernelIdeal.main_arg3))
          (m ((c.tc : Thread KernelIdeal.nD KernelIdeal.τ).loc KernelIdeal.main_arg4)) := by
  unfold KernelIdeal.Hand.result
  rw [KernelIdeal.Hand.V_v0, KernelIdeal.Hand.V_v1, KernelIdeal.Hand.V_v2, KernelIdeal.Hand.V_v4,
    KernelIdeal.Gen.V_main_arg2]
  exact Values.flat_eq _ _ _ _ _

/-- The value claim: from memories that agree on the arguments, both programs run and end with equal results. -/
theorem algebraic : Cert.algebraic_KernelIdeal_ReferenceIdeal := by
  intro m g m' g' _ hagree
  refine ⟨fun c => shapeCast KernelIdeal.S4x1024x4480 (KernelIdeal.Hand.result m c)
      KernelIdeal.Gen.shapeCasts_S4096x4480_S4x1024x4480, KernelIdeal.Hand.run_value m g, ?_⟩
  refine (θ_run ReferenceIdeal.defs _ _).mono (fun r h c => ?_) (ReferenceIdeal.Value.run m' g')
  refine ⟨(h c).1.trans ?_, (h c).2⟩
  obtain ⟨h0, h1, h2, h3, h4⟩ := hagree c
  rw [h0, h1, h2, h3, h4]
  exact (result_eq m c).symm

/-- Every claim of the certificate. -/
theorem claim : Cert.Claim := ⟨Cert.Kernel.Gen.facts, Cert.KernelIdeal.Gen.facts, Cert.ReferenceIdeal.Gen.facts,
  fun m g _ => Kernel.Hand.frame m g, fun m g _ => KernelIdeal.Hand.frame m g,
  fun m g _ => ReferenceIdeal.Gen.frame m g, trivial, algebraic⟩

end Cert.Proof

end
